-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S16x2048 : Shape := ⟨2, ![16, 2048]⟩
abbrev S16384x2048 : Shape := ⟨2, ![16384, 2048]⟩
abbrev S2x16384 : Shape := ⟨2, ![2, 16384]⟩
abbrev S2048x2048 : Shape := ⟨2, ![2048, 2048]⟩
abbrev S2x2048 : Shape := ⟨2, ![2, 2048]⟩
abbrev S16 : Shape := ⟨1, ![16]⟩
abbrev S16x1 : Shape := ⟨2, ![16, 1]⟩
abbrev S2048 : Shape := ⟨1, ![2048]⟩
abbrev S2048x1 : Shape := ⟨2, ![2048, 1]⟩
abbrev S1x2048 : Shape := ⟨2, ![1, 2048]⟩
abbrev S16384x2 : Shape := ⟨2, ![16384, 2]⟩
abbrev S4x4096x2 : Shape := ⟨3, ![4, 4096, 2]⟩

abbrev nBuf : Space → Nat
  | .hbm => 9
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16384x2048, .f32⟩
  | .hbm, ⟨3, _⟩ => ⟨S2x16384, .i32⟩
  | .hbm, ⟨4, _⟩ => ⟨S2x16384, .f32⟩
  | .hbm, ⟨5, _⟩ => ⟨S16384x2, .i32⟩
  | .hbm, ⟨6, _⟩ => ⟨S4x4096x2, .i32⟩
  | .hbm, ⟨7, _⟩ => ⟨S16384x2, .f32⟩
  | .hbm, ⟨8, _⟩ => ⟨S4x4096x2, .f32⟩
  | .local _ .vmem, ⟨0, _⟩ => ⟨S2048x2048, .f32⟩
  | .local _ .vmem, ⟨1, _⟩ => ⟨S2048x2048, .f32⟩
  | .local _ .vmem, ⟨2, _⟩ => ⟨S16x2048, .f32⟩
  | .local _ .vmem, ⟨3, _⟩ => ⟨S2x2048, .i32⟩
  | .local _ .vmem, ⟨4, _⟩ => ⟨S2x2048, .i32⟩
  | .local _ .vmem, ⟨5, _⟩ => ⟨S2x2048, .f32⟩
  | .local _ .vmem, ⟨6, _⟩ => ⟨S2x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x2048 : Shape := ⟨3, ![4, 4096, 2048]⟩
abbrev S16x2048 : Shape := ⟨2, ![16, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S16 : Shape := ⟨1, ![16]⟩
abbrev S16x1 : Shape := ⟨2, ![16, 1]⟩
abbrev S2048x16 : Shape := ⟨2, ![2048, 16]⟩
abbrev S16384x16 : Shape := ⟨2, ![16384, 16]⟩
abbrev S16384x2 : Shape := ⟨2, ![16384, 2]⟩
abbrev S4x4096x2 : Shape := ⟨3, ![4, 4096, 2]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x2048, .f32⟩
  | .hbm, ⟨12, _⟩ => ⟨S16384x2048, .f32⟩
  | .hbm, ⟨13, _⟩ => ⟨S16x2048, .f32⟩
  | .hbm, ⟨14, _⟩ => ⟨S_, .f32⟩
  | .hbm, ⟨15, _⟩ => ⟨S16, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x2048, .f32⟩
  | .hbm, ⟨22, _⟩ => ⟨S16x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x16, .f32⟩
  | .hbm, ⟨37, _⟩ => ⟨S16384x16, .f32⟩
  | .hbm, ⟨38, _⟩ => ⟨S16384x16, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x16, .f32⟩
  | .hbm, ⟨43, _⟩ => ⟨S16384x16, .f32⟩
  | .hbm, ⟨44, _⟩ => ⟨S16384x2, .f32⟩
  | .hbm, ⟨45, _⟩ => ⟨S16384x2, .i32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x2, .f32⟩
  | .hbm, ⟨53, _⟩ => ⟨S16384x2, .f32⟩
  | .hbm, ⟨54, _⟩ => ⟨S4x4096x2, .i32⟩
  | .hbm, ⟨55, _⟩ => ⟨S4x4096x2, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_values : Ref sig .tc := ⟨.hbm, 44, rfl⟩
abbrev main_indices : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.Sort.lean ====
/- The two greatest entries of a row, as the stable sort of the row's positions finds them: the position of the
   maximum, ties broken toward the lower position, and the position of the maximum of the others. -/
module

public import Idealize.ShloMosaic.Lib.SortPrefix
public import Idealize.ShloMosaic.PureOps.Ideal

@[expose] public section

noncomputable section

namespace Cert.Router

open Idealize.ShloMosaic

/-- Position `i` holds the greatest entry of `v`, and no lower position holds an equal one. -/
def IsFirstMax {n : ℕ} (v : Fin n → EReal) (i : Fin n) : Prop := ∀ e, v e ≤ v i ∧ (v e = v i → i ≤ e)

/-- Every nonempty row has such a position. -/
theorem exists_isFirstMax {n : ℕ} [NeZero n] (v : Fin n → EReal) : ∃ i, IsFirstMax v i := by
  classical
  obtain ⟨m, -, hm⟩ := Finset.exists_max_image Finset.univ v ⟨0, Finset.mem_univ _⟩
  obtain ⟨i, hi, hle⟩ := Finset.exists_min_image (Finset.univ.filter fun e => v e = v m) id
    ⟨m, by simp⟩
  have hi' : v i = v m := by simpa using hi
  refine ⟨i, fun e => ⟨hi' ▸ hm e (Finset.mem_univ _), fun h => hle e ?_⟩⟩
  simpa using h.trans hi'

/-- `i` is the first position of the maximum of `v`, and `j` that of the maximum of the other entries. -/
structure IsTopTwo {n : ℕ} (v : Fin n → EReal) (i j : Fin n) : Prop where
  first : IsFirstMax v i
  ne : j ≠ i
  second : ∀ e, e ≠ i → v e ≤ v j ∧ (v e = v j → j ≤ e)

/-- A row with the same order of its entries has the same two positions. -/
theorem IsTopTwo.of_le_iff {n : ℕ} {v w : Fin n → EReal} {i j : Fin n} (h : IsTopTwo v i j)
    (hw : ∀ a b, w a ≤ w b ↔ v a ≤ v b) : IsTopTwo w i j := by
  have heq : ∀ a b, w a = w b → v a = v b := fun a b e =>
    le_antisymm ((hw a b).1 e.le) ((hw b a).1 e.ge)
  exact ⟨fun e => ⟨(hw _ _).2 (h.first e).1, fun q => (h.first e).2 (heq _ _ q)⟩, h.ne,
    fun e he => ⟨(hw _ _).2 (h.second e he).1, fun q => (h.second e he).2 (heq _ _ q)⟩⟩

/-- The stable sort of a list in increasing order of position never compares a position against a lower one the
    other way round, so it may as well compare the key first and the position second. -/
theorem stableSort_eq_lex {n : ℕ} (v : Fin n → EReal) (l : List (Fin n)) (hl : l.Pairwise (· < ·)) :
    stableSort (fun a b => decide (v b < v a)) l
      = stableSort (fun a b => decide (v b < v a) || (decide (v a = v b) && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : decide (b < a) = false := decide_eq_false (not_lt.mpr hab.le)
    rw [this, Bool.and_false, Bool.or_false]

/-- The first two positions of the stable sort, greatest first, are the two of `IsTopTwo`. -/
theorem sortedFrom_eq {n : ℕ} (h2 : 2 ≤ n) (v : Fin n → EReal) (i j : Fin n) (h : IsTopTwo v i j) (k : Fin 2) :
    sortedFrom (fun a b => decide (v b < v a)) (k.castLE h2) = if k = 0 then i else j := by
  classical
  have hlex := StrictTotalBefore.of_key_then_position (fun x y : EReal => decide (y < x)) v
    (fun a => decide_eq_false (lt_irrefl a))
    (fun a b c hab hbc => decide_eq_true (lt_trans (of_decide_eq_true hbc) (of_decide_eq_true hab)))
    (fun a b => by
      rcases lt_trichotomy a b with q | q | q
      · exact Or.inr (Or.inr (decide_eq_true q))
      · exact Or.inr (Or.inl q)
      · exact Or.inl (decide_eq_true q))
  have hs : sortedFrom (fun a b => decide (v b < v a)) (k.castLE h2)
      = sortedFrom (fun a b => decide (v b < v a) || (decide (v a = v b) && decide (a < b))) (k.castLE h2) := by
    have e : sortPositions n (fun a b => decide (v b < v a))
        = sortPositions n (fun a b => decide (v b < v a) || (decide (v a = v b) && decide (a < b))) :=
      stableSort_eq_lex v _ (List.pairwise_lt_finRange n)
    unfold sortedFrom
    rw [List.get_of_eq e]
    rfl
  have hnb : ∀ p q : Fin n, v p ≤ v q → (v p = v q → q ≤ p) →
      (decide (v q < v p) || (decide (v p = v q) && decide (p < q))) = false := fun p q hle hti => by
    rw [Bool.or_eq_false_iff, Bool.and_eq_false_iff]
    refine ⟨decide_eq_false (not_lt.mpr hle), ?_⟩
    by_cases e : v p = v q
    · exact Or.inr (decide_eq_false (not_lt.mpr (hti e)))
    · exact Or.inl (decide_eq_false e)
  rw [hs]
  refine hlex.sortedFrom_eq_of_prefix h2 (fun k => if k = 0 then i else j) ?_ ?_ ?_ k
  · intro a b hab
    fin_cases a <;> fin_cases b <;> simp_all [h.ne, h.ne.symm]
  · intro a b hab
    fin_cases a <;> fin_cases b <;> simp at hab
    exact hnb j i (h.first j).1 (h.first j).2
  · intro a p hp
    have hpi : p ≠ i := fun e => hp 0 (by simp [e])
    fin_cases a
    · exact hnb p i (h.first p).1 (h.first p).2
    · exact hnb p j (h.second p hpi).1 (h.second p hpi).2

end Cert.Router

end
-- ==== Proof.Unit.lean ====
/- A row of a matrix divided by its length, the length cut off below: every entry of the quotient is a real number
   of size at most one, whatever the row holds. The scalar product of two such rows of 2048 entries is therefore a
   real number of size at most 2048. -/
module

public import Idealize.ShloMosaic.Lib.Pointwise
public import Idealize.ShloMosaic.Lib.IdealHost

@[expose] public section

noncomputable section

namespace Cert.Router

open Idealize.ShloMosaic

/-! ## The constants -/

/-- The pattern of the running maximum's start is minus infinity. -/
theorem ofBits_negInf : Ideal.ofBits .f32 0xFF800000#32 = ⊥ := by
  simp [Ideal.ofBits, Ideal.ieee]

/-- The pattern below which a length is not let fall is a positive real number. -/
theorem ofBits_minLength : ∃ r : ℝ, 0 < r ∧ Ideal.ofBits .f32 0x2B8CBCCC#32 = (r : EReal) := by
  refine ⟨_, ?_, by simp [Ideal.ofBits, Ideal.ieee, -EReal.coe_mul]; rfl⟩
  positivity

/-- The pattern that guards the last division is a positive real number. -/
theorem ofBits_guard : ∃ r : ℝ, 0 < r ∧ Ideal.ofBits .f32 0x3089705F#32 = (r : EReal) := by
  refine ⟨_, ?_, by simp [Ideal.ofBits, Ideal.ieee, -EReal.coe_mul]; rfl⟩
  positivity

/-- The pattern of the least temperature is a real number at most one. -/
theorem ofBits_minTemp : Ideal.ofBits .f32 0x358637BD#32 ≤ 1 := by
  have h : ∃ r : ℝ, r ≤ 1 ∧ Ideal.ofBits .f32 0x358637BD#32 = (r : EReal) := by
    refine ⟨_, ?_, by simp [Ideal.ofBits, Ideal.ieee, -EReal.coe_mul]; rfl⟩
    norm_num
  obtain ⟨r, hr, e⟩ := h
  rw [e]
  exact_mod_cast hr

/-- The pattern that masks a chosen entry is a real number below -2048. -/
theorem ofBits_mask : ∃ r : ℝ, r < -2048 ∧ Ideal.ofBits .f32 0xF149F2CA#32 = (r : EReal) := by
  refine ⟨_, ?_, by simp [Ideal.ofBits, Ideal.ieee, -EReal.coe_mul, -EReal.coe_neg]; rfl⟩
  norm_num

/-- A sum of real numbers is the same sum among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## A row over its length -/

/-- Row `x` over the root of the sum of its squares, that root cut off below at the constant both programs name. -/
def unitRow (x : Fin 2048 → EReal) (k : Fin 2048) : EReal :=
  Ideal.div (x k) (max (Ideal.sqrt (∑ q, x q * x q)) (Ideal.ofBits .f32 0x2B8CBCCC#32))

/-- A square is not negative. -/
theorem square_nonneg (x : EReal) : 0 ≤ x * x := by
  rcases le_total 0 x with h | h
  · exact mul_nonneg h h
  · rw [← neg_mul_neg]
    have : 0 ≤ -x := by simpa using EReal.neg_le_neg_iff.mpr h
    exact mul_nonneg this this

/-- Every entry of a row over its length is a real number of size at most one. -/
theorem unitRow_real (x : Fin 2048 → EReal) (k : Fin 2048) : ∃ r : ℝ, |r| ≤ 1 ∧ unitRow x k = (r : EReal) := by
  obtain ⟨ε, hε, eε⟩ := ofBits_minLength
  have hk : x k * x k ≤ ∑ q, x q * x q :=
    Finset.single_le_sum (f := fun q => x q * x q) (fun q _ => square_nonneg (x q)) (Finset.mem_univ k)
  unfold unitRow
  rw [eε]
  generalize (∑ q, x q * x q) = S at hk
  have hS : 0 ≤ S := (square_nonneg (x k)).trans hk
  induction S with
  | bot => exact absurd hS (by simp)
  | top =>
    refine ⟨0, by simp, ?_⟩
    rw [Ideal.sqrt_top, max_eq_left le_top, Ideal.div, if_neg (by simp)]
    simp
  | coe s =>
    have hs : 0 ≤ s := by exact_mod_cast hS
    have hx : ∃ a : ℝ, x k = (a : EReal) := by
      generalize x k = y at hk
      induction y with
      | bot => simp at hk
      | top => simp at hk
      | coe a => exact ⟨a, rfl⟩
    obtain ⟨a, ha⟩ := hx
    rw [ha] at hk ⊢
    have hk' : a * a ≤ s := by exact_mod_cast hk
    have ha' : |a| ≤ Real.sqrt s := Real.abs_le_sqrt (by nlinarith)
    rw [Ideal.sqrt_coe, if_neg (not_lt.mpr hs), ← EReal.coe_strictMono.monotone.map_max]
    have hpos : 0 < max (Real.sqrt s) ε := lt_max_of_lt_right hε
    rw [Ideal.div_coe hpos.ne']
    refine ⟨a * (1 / max (Real.sqrt s) ε), ?_, by rw [EReal.coe_mul]⟩
    rw [mul_one_div, abs_div, abs_of_pos hpos, div_le_one hpos]
    exact ha'.trans (le_max_left _ _)

/-- The scalar product of a centre and a token, each over its length. -/
def logit (c x : Fin 2048 → EReal) : EReal := ∑ k, unitRow c k * unitRow x k

/-- A scalar product of two rows over their lengths is a real number of size at most 2048. -/
theorem logit_real (c x : Fin 2048 → EReal) : ∃ r : ℝ, |r| ≤ 2048 ∧ logit c x = (r : EReal) := by
  choose u hu eu using unitRow_real c
  choose v hv ev using unitRow_real x
  refine ⟨∑ k, u k * v k, ?_, ?_⟩
  · calc |∑ k, u k * v k| ≤ ∑ k, |u k * v k| := Finset.abs_sum_le_sum_abs _ _
      _ ≤ ∑ _k : Fin 2048, (1 : ℝ) := Finset.sum_le_sum fun k _ => by
          rw [abs_mul]; exact mul_le_one₀ (hu k) (abs_nonneg _) (hv k)
      _ = 2048 := by simp
  · unfold logit
    rw [coe_sum]
    exact Finset.sum_congr rfl fun k _ => by rw [eu, ev, EReal.coe_mul]

end Cert.Router

end
-- ==== Proof.Row.lean ====
/- The selection a router makes on one row of sixteen scores, as the kernel computes it and as the reference
   computes it, and the proof that on bounded real scores the two agree.

   The kernel takes the row's maximum, the least position where it stands, masks that position and takes both again;
   its weights are quotients by one plus the second exponential plus a guard times the sum of all of them. The
   reference takes the softmax, sorts it, keeps the two greatest entries and divides them by their guarded sum. -/
module

public import proofs.«01_k».proof.Proof.Sort
public import proofs.«01_k».proof.Proof.Unit

@[expose] public section

noncomputable section

namespace Cert.Router

open Idealize.ShloMosaic

/-! ## The kernel's selection -/

/-- The maximum of a row of scores, from minus infinity. -/
def rowMax (l : Fin 16 → EReal) : EReal :=
  Finset.fold max (Ideal.ofBits .f32 0xFF800000#32) (fun x => l x) Finset.univ

/-- The least position, as a word, where a row's maximum stands. -/
def rowPick (l : Fin 16 → EReal) : BitVec 32 :=
  Finset.fold IntOp.minsi 2147483647#32 (fun x => if l x = rowMax l then BitVec.ofNat 32 ↑x else 16#32) Finset.univ

/-- The row with the picked position masked. -/
def rowMask (l : Fin 16 → EReal) (e : Fin 16) : EReal :=
  Scalar.select (IntOp.cmpi .eq (BitVec.ofNat 32 ↑e) (rowPick l)) (Ideal.ofBits .f32 0xF149F2CA#32) (l e)

/-- The kernel's two chosen positions. -/
def kernelIds (l : Fin 16 → EReal) (k : Fin 2) : BitVec 32 :=
  if (k : ℕ) < 1 then rowPick l else rowPick (rowMask l)

/-- The exponential of the second maximum less the first. -/
def secondExp (l : Fin 16 → EReal) : EReal := Ideal.exp (rowMax (rowMask l) - rowMax l)

/-- The kernel's common divisor. -/
def divisor (l : Fin 16 → EReal) : EReal :=
  1 + secondExp l + Ideal.ofBits .f32 0x3089705F#32 * ∑ x, Ideal.exp (l x - rowMax l)

/-- The kernel's two weights. -/
def kernelWeights (l : Fin 16 → EReal) (k : Fin 2) : EReal :=
  if (k : ℕ) < 1 then Ideal.div 1 (divisor l) else Ideal.div (secondExp l) (divisor l)

/-! ## The reference's selection -/

/-- The exponential of a score less the row's maximum. -/
def rowExp (l : Fin 16 → EReal) (e : Fin 16) : EReal :=
  Ideal.exp (l e - max (Ideal.ofBits .f32 0xFF800000#32) (rowMax l))

/-- The softmax of a row. -/
def rowProb (l : Fin 16 → EReal) (e : Fin 16) : EReal := Ideal.div (rowExp l e) (∑ x, rowExp l x)

/-- The position the stable sort, greatest first, puts at place `k`. -/
def sortedPos (v : Fin 16 → EReal) (k : Fin 2) : Fin 16 :=
  sortedFrom (fun a b => decide (v b < v a)) (k.castLE (by decide))

/-- The reference's two chosen positions. -/
def referenceIds (l : Fin 16 → EReal) (k : Fin 2) : BitVec 32 := BitVec.ofNat 32 ↑(sortedPos (rowProb l) k)

/-- The reference's two weights. -/
def referenceWeights (l : Fin 16 → EReal) (k : Fin 2) : EReal :=
  Ideal.div (rowProb l (sortedPos (rowProb l) k))
    (∑ x, rowProb l (sortedPos (rowProb l) x) + Ideal.ofBits .f32 0x3089705F#32)

/-! ## The maximum and its position -/

/-- The maximum of a row is its entry at a first position of the maximum. -/
theorem rowMax_eq {l : Fin 16 → EReal} {i : Fin 16} (h : IsFirstMax l i) : rowMax l = l i := by
  unfold rowMax
  rw [ofBits_negInf]
  refine le_antisymm ((Finset.fold_max_le _).2 ⟨bot_le, fun e _ => (h e).1⟩) ?_
  exact (Finset.le_fold_max _).2 (Or.inr ⟨i, Finset.mem_univ _, le_rfl⟩)

/-- A position of the row, as a word read as a signed number, is itself. -/
theorem toInt_pos (e : Fin 16) : (BitVec.ofNat 32 (e : ℕ)).toInt = (e : ℤ) := by
  revert e; decide

/-- The signed minimum of two words, as a signed number. -/
theorem toInt_minsi (x y : BitVec 32) : (IntOp.minsi x y).toInt = min x.toInt y.toInt := by
  unfold IntOp.minsi
  simp only [BitVec.slt, decide_eq_true_eq]
  split <;> omega

/-- The signed minimum of words over a row is a word of the row that none is below, the start not below it either. -/
theorem fold_minsi_eq (f : Fin 16 → BitVec 32) (b : BitVec 32) (i : Fin 16) (hb : (f i).toInt ≤ b.toInt)
    (hf : ∀ e, (f i).toInt ≤ (f e).toInt) : Finset.fold IntOp.minsi b f Finset.univ = f i := by
  apply BitVec.eq_of_toInt_eq
  have hle := (Finset.fold_op_rel_iff_and (op := IntOp.minsi (w := 32)) (f := f) (b := b) (s := Finset.univ)
    (r := fun x y => x.toInt ≤ y.toInt) (fun {x y z} => by simp only [toInt_minsi]; exact le_min_iff) (c := f i)).2
    ⟨hb, fun e _ => hf e⟩
  have hge := (Finset.fold_op_rel_iff_or (op := IntOp.minsi (w := 32)) (f := f) (b := b) (s := Finset.univ)
    (r := fun x y => y.toInt ≤ x.toInt) (fun {x y z} => by simp only [toInt_minsi]; exact min_le_iff) (c := f i)).2
    (Or.inr ⟨i, Finset.mem_univ _, le_rfl⟩)
  exact le_antisymm hge hle

/-- The picked position is the first position of the maximum. -/
theorem rowPick_eq {l : Fin 16 → EReal} {i : Fin 16} (h : IsFirstMax l i) : rowPick l = BitVec.ofNat 32 ↑i := by
  unfold rowPick
  rw [rowMax_eq h]
  have hi : (if l i = l i then BitVec.ofNat 32 (i : ℕ) else 16#32) = BitVec.ofNat 32 ↑i := if_pos rfl
  rw [fold_minsi_eq _ _ i, hi]
  · rw [hi, toInt_pos]; rw [show (2147483647#32 : BitVec 32).toInt = 2147483647 from by decide]; omega
  · intro e
    rw [hi, toInt_pos]
    split
    · next q => rw [toInt_pos]; exact_mod_cast (h e).2 q
    · rw [show (16#32 : BitVec 32).toInt = 16 from by decide]; omega

/-! ## The mask -/

/-- Two positions of the row are equal words exactly when they are equal. -/
theorem cmpi_pos (e i : Fin 16) :
    IntOp.cmpi .eq (BitVec.ofNat 32 (e : ℕ)) (BitVec.ofNat 32 (i : ℕ)) = BitVec.ofBool (decide (e = i)) := by
  revert e i; decide

/-- The picked position holds the mask and every other its score. -/
theorem rowMask_eq {l : Fin 16 → EReal} {i : Fin 16} (h : IsFirstMax l i) (e : Fin 16) :
    rowMask l e = if e = i then Ideal.ofBits .f32 0xF149F2CA#32 else l e := by
  unfold rowMask
  rw [rowPick_eq h, cmpi_pos]
  by_cases q : e = i <;> simp [q, Scalar.select]

/-- Of bounded real scores the masked row has a first maximum, and with the first it makes the top two. -/
theorem exists_topTwo (r : Fin 16 → ℝ) (hr : ∀ e, |r e| ≤ 2048) : ∃ i j : Fin 16,
    IsTopTwo (fun e => (r e : EReal)) i j ∧ IsFirstMax (rowMask fun e => (r e : EReal)) j := by
  obtain ⟨i, hi⟩ := exists_isFirstMax fun e => (r e : EReal)
  obtain ⟨j, hj⟩ := exists_isFirstMax (rowMask fun e => (r e : EReal))
  obtain ⟨μ, hμ, eμ⟩ := ofBits_mask
  have hm := rowMask_eq hi
  rw [eμ] at hm
  have hne : j ≠ i := by
    rintro rfl
    obtain ⟨e, he⟩ : ∃ e : Fin 16, e ≠ j := exists_ne j
    have := (hj e).1
    rw [hm e, hm j, if_neg he, if_pos rfl] at this
    have : r e ≤ μ := by exact_mod_cast this
    have := (abs_le.1 (hr e)).1
    linarith
  refine ⟨i, j, ⟨hi, hne, fun e he => ?_⟩, hj⟩
  have := hj e
  rwa [hm e, hm j, if_neg he, if_neg hne] at this

/-! ## The two selections agree -/

/-- The kernel's positions on bounded real scores. -/
theorem kernelIds_eq {l : Fin 16 → EReal} {i j : Fin 16} (h : IsTopTwo l i j) (hj : IsFirstMax (rowMask l) j)
    (k : Fin 2) : kernelIds l k = BitVec.ofNat 32 ↑(if k = 0 then i else j) := by
  unfold kernelIds
  rw [rowPick_eq h.first, rowPick_eq hj]
  fin_cases k <;> simp

/-- The row's softmax on real scores: a positive multiple of the exponential of the score less the maximum. -/
theorem rowProb_eq (r : Fin 16 → ℝ) {i : Fin 16} (h : IsFirstMax (fun e => (r e : EReal)) i) (e : Fin 16) :
    rowProb (fun e => (r e : EReal)) e = ((Real.exp (r e - r i) / ∑ x, Real.exp (r x - r i) : ℝ) : EReal) := by
  have hE : ∀ e, rowExp (fun e => (r e : EReal)) e = ((Real.exp (r e - r i) : ℝ) : EReal) := fun e => by
    unfold rowExp
    rw [rowMax_eq h, ofBits_negInf, max_eq_right bot_le, ← EReal.coe_sub, Ideal.exp_coe]
  unfold rowProb
  simp only [hE]
  have hpos : 0 < ∑ x, Real.exp (r x - r i) :=
    Finset.sum_pos (fun x _ => Real.exp_pos _) ⟨i, Finset.mem_univ _⟩
  rw [← coe_sum, Ideal.div_coe hpos.ne', ← EReal.coe_mul, mul_one_div]

/-- The softmax keeps the order of real scores, so the two greatest are the same. -/
theorem sortedPos_rowProb (r : Fin 16 → ℝ) {i j : Fin 16} (h : IsTopTwo (fun e => (r e : EReal)) i j) (k : Fin 2) :
    sortedPos (rowProb fun e => (r e : EReal)) k = if k = 0 then i else j := by
  refine sortedFrom_eq (by decide) _ i j (h.of_le_iff fun a b => ?_) k
  have hpos : 0 < ∑ x, Real.exp (r x - r i) :=
    Finset.sum_pos (fun x _ => Real.exp_pos _) ⟨i, Finset.mem_univ _⟩
  rw [rowProb_eq r h.first, rowProb_eq r h.first, EReal.coe_le_coe_iff, EReal.coe_le_coe_iff,
    div_le_div_iff_of_pos_right hpos, Real.exp_le_exp]
  exact sub_le_sub_iff_right _

/-- On bounded real scores the two programs choose the same positions. -/
theorem ids_eq (r : Fin 16 → ℝ) (hr : ∀ e, |r e| ≤ 2048) (k : Fin 2) :
    kernelIds (fun e => (r e : EReal)) k = referenceIds (fun e => (r e : EReal)) k := by
  obtain ⟨i, j, h, hj⟩ := exists_topTwo r hr
  unfold referenceIds
  rw [kernelIds_eq h hj, sortedPos_rowProb r h]

/-- On bounded real scores the two programs give the chosen positions the same weights. -/
theorem weights_eq (r : Fin 16 → ℝ) (hr : ∀ e, |r e| ≤ 2048) (k : Fin 2) :
    kernelWeights (fun e => (r e : EReal)) k = referenceWeights (fun e => (r e : EReal)) k := by
  obtain ⟨i, j, h, hj⟩ := exists_topTwo r hr
  obtain ⟨γ, hγ, eγ⟩ := ofBits_guard
  have hmj : rowMax (rowMask fun e => (r e : EReal)) = (r j : EReal) := by
    rw [rowMax_eq hj, rowMask_eq h.first, if_neg h.ne]
  obtain ⟨Z, hZ⟩ : ∃ Z : ℝ, Z = ∑ x, Real.exp (r x - r i) := ⟨_, rfl⟩
  have hpos : 0 < Z := hZ ▸ Finset.sum_pos (fun x _ => Real.exp_pos _) ⟨i, Finset.mem_univ _⟩
  have hx : 0 < Real.exp (r j - r i) := Real.exp_pos _
  have hs : secondExp (fun e => (r e : EReal)) = ((Real.exp (r j - r i) : ℝ) : EReal) := by
    unfold secondExp
    rw [hmj, rowMax_eq h.first, ← EReal.coe_sub, Ideal.exp_coe]
  have hd : divisor (fun e => (r e : EReal)) = ((1 + Real.exp (r j - r i) + γ * Z : ℝ) : EReal) := by
    unfold divisor
    rw [hs, rowMax_eq h.first, eγ, hZ]
    simp only [← EReal.coe_sub, Ideal.exp_coe]
    rw [← coe_sum, EReal.coe_add, EReal.coe_add, EReal.coe_mul, EReal.coe_one]
  have hdpos : 0 < 1 + Real.exp (r j - r i) + γ * Z := add_pos (add_pos one_pos hx) (mul_pos hγ hpos)
  have hden : ∑ x, rowProb (fun e => (r e : EReal)) (sortedPos (rowProb fun e => (r e : EReal)) x)
      + Ideal.ofBits .f32 0x3089705F#32 = ((1 / Z + Real.exp (r j - r i) / Z + γ : ℝ) : EReal) := by
    rw [Fin.sum_univ_two, sortedPos_rowProb r h, sortedPos_rowProb r h, if_pos rfl, if_neg (by decide),
      rowProb_eq r h.first, rowProb_eq r h.first, eγ, ← hZ, sub_self, Real.exp_zero, ← EReal.coe_add, ← EReal.coe_add]
  have hdenpos : 0 < 1 / Z + Real.exp (r j - r i) / Z + γ :=
    add_pos (add_pos (div_pos one_pos hpos) (div_pos hx hpos)) hγ
  unfold kernelWeights referenceWeights
  rw [hden, hd, hs, sortedPos_rowProb r h, Ideal.div_coe hdenpos.ne', Ideal.div_coe hdpos.ne', Ideal.div_coe hdpos.ne',
    rowProb_eq r h.first, ← hZ]
  have key : 1 / Z + Real.exp (r j - r i) / Z + γ = (1 + Real.exp (r j - r i) + γ * Z) / Z := by
    field_simp
  rw [key, ← EReal.coe_mul, ← EReal.coe_one, ← EReal.coe_mul, ← EReal.coe_mul]
  fin_cases k
  · simp only [Fin.zero_eta, Fin.isValue, Fin.val_zero, Nat.lt_one_iff, ↓reduceIte, sub_self, Real.exp_zero]
    rw [EReal.coe_eq_coe_iff]
    field_simp
  · simp only [Fin.mk_one, Fin.isValue, Fin.val_one, lt_self_iff_false, ↓reduceIte, one_ne_zero]
    rw [EReal.coe_eq_coe_iff]
    field_simp

end Cert.Router

end
-- ==== Proof.Block.lean ====
/- What one grid point of the kernel stores, read at an index: the two chosen positions and the two weights of each
   token of the block, as the row functions of that token's sixteen scores. -/
module

public import proofs.«01_k».proof.Proof.Gen.KernelIdeal.Skeleton
public import proofs.«01_k».proof.Proof.Row
public import Idealize.ShloMosaic.Lib.Pointwise

@[expose] public section

set_option maxRecDepth 16384

noncomputable section

namespace Cert.Router.Kernel

open Idealize.ShloMosaic Idealize.ShloMosaic.TcCoe Idealize.SL.Sem
open Cert.KernelIdeal Cert.KernelIdeal.Gen

variable (C : FVec Ideal S16x2048 .f32) (X : FVec Ideal S2048x2048 .f32) (t : Fin 2048)

/-- The sixteen scores of token `t` of the block `X` against the centres `C`. -/
def blockScores (e : Fin 16) : EReal := logit (fun q => C (ix2 e q)) (fun q => X (ix2 t q))

/-- The block's score matrix at a centre and a token. -/
theorem pay3_at (e : Fin 16) : k0_pay3 (F := Ideal) C X (ix2 e t) = blockScores C X t e := by
  pointwise [k0_pay3]
  rfl

/-- The block's row of maxima at a token. -/
theorem pay4_at : k0_pay4 (F := Ideal) C X (ix2 0 t) = rowMax (blockScores C X t) := by
  pointwise [k0_pay4, pay3_at]
  rfl

/-- The block's row of first positions at a token. -/
theorem pay5_at : k0_pay5 (F := Ideal) C X (ix2 0 t) = rowPick (blockScores C X t) := by
  pointwise [k0_pay5, pay3_at, pay4_at]
  rfl

/-- The block's masked score matrix at a centre and a token. -/
theorem pay6_at (e : Fin 16) : k0_pay6 (F := Ideal) C X (ix2 e t) = rowMask (blockScores C X t) e := by
  pointwise [k0_pay6, pay3_at, pay5_at]
  rfl

/-- The block's row of second maxima at a token. -/
theorem pay7_at : k0_pay7 (F := Ideal) C X (ix2 0 t) = rowMax (rowMask (blockScores C X t)) := by
  pointwise [k0_pay7, pay6_at]
  rfl

/-- The block's row of second positions at a token. -/
theorem pay8_at : k0_pay8 (F := Ideal) C X (ix2 0 t) = rowPick (rowMask (blockScores C X t)) := by
  pointwise [k0_pay8, pay6_at, pay7_at]
  rfl

/-- The block's scores less their maxima at a centre and a token. -/
theorem pay9_at (e : Fin 16) :
    k0_pay9 (F := Ideal) C X (ix2 e t) = blockScores C X t e - rowMax (blockScores C X t) := by
  pointwise [k0_pay9, pay3_at, pay4_at]

/-- The positions a grid point stores. -/
theorem ids_at (k : Fin 2) :
    k0_pay1 (k0_pay5 (F := Ideal) C X) (k0_pay8 (F := Ideal) C X) (ix2 k t) = kernelIds (blockScores C X t) k := by
  fin_cases k
  · pointwise [k0_pay1]
    exact pay5_at C X t
  · pointwise [k0_pay1]
    exact pay8_at C X t

/-- The weights a grid point stores. -/
theorem weights_at (k : Fin 2) :
    k0_pay2 (F := Ideal) (k0_pay4 C X) (k0_pay7 C X) (k0_pay9 C X) (ix2 k t) = kernelWeights (blockScores C X t) k := by
  fin_cases k
  · pointwise [k0_pay2, pay4_at, pay7_at, pay9_at]
    exact (if_pos (by decide)).symm
  · pointwise [k0_pay2, pay4_at, pay7_at, pay9_at]
    exact (if_neg (by decide)).symm

end Cert.Router.Kernel

end
-- ==== Proof.Array.lean ====
/- What the kernel's two arrays hold after its grid: for every token the row functions of its sixteen scores. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Router.Kernel

open Idealize.ShloMosaic Idealize.ShloMosaic.TcCoe Idealize.SL.Sem
open Idealize.ShloMosaic.Pipeline (Dat)
open Cert.KernelIdeal Cert.KernelIdeal.Gen

/-- The sixteen scores of token `t` of all the tokens `X` against the centres `C`. -/
def tokenScores (C : FVec Ideal S16x2048 .f32) (X : FVec Ideal S16384x2048 .f32) (t : Fin 16384) (e : Fin 16) : EReal :=
  logit (fun q => C (ix2 e q)) (fun q => X (ix2 t q))

/-- The array of chosen positions, a row per choice and a column per token. -/
def idsArray (C : FVec Ideal S16x2048 .f32) (X : FVec Ideal S16384x2048 .f32) : IVec S2x16384 32 :=
  fun i => kernelIds (tokenScores C X (i 1)) (i 0)

/-- The array of weights, a row per choice and a column per token. -/
def weightsArray (C : FVec Ideal S16x2048 .f32) (X : FVec Ideal S16384x2048 .f32) : FVec Ideal S2x16384 .f32 :=
  fun i => kernelWeights (tokenScores C X (i 1)) (i 0)

/-- Which block each window is on at a grid point: the tokens and the results move along, the centres stay. -/
theorem idx : ∀ t : Fin cfg0.N, win0_0.index t = ![t.val, 0] ∧ win0_1.index t = ![0, 0]
    ∧ win0_2.index t = ![0, t.val] ∧ win0_3.index t = ![0, t.val] :=
  (by decide +kernel : ∀ t : Fin grid0.N, _)

variable (m : (ℓ : Loc nD τ sig) → Buf (Elt Ideal) ℓ)

/-- A token's scores in its block are its scores among all the tokens. -/
theorem blockScores_eq (c : Dev nD) (t : Fin cfg0.N) (y : Fin 2048) (T : Fin 16384) (h : (T : ℕ) = t.val * 2048 + y.val) :
    blockScores (iblk m c 1 t) (iblk m c 0 t) y
      = tokenScores (m ((c : Thread nD τ).loc main_arg1)) (V m c main_v0) T := by
  funext e
  refine congrArg₂ logit (funext fun q => ?_) (funext fun q => ?_)
  · blk_ext [iblk, V_main_arg1, idx t]
  · blk_ext [iblk, idx t, h]

/-- The positions a grid point stores, at any index of its block. -/
theorem ids_block (C : FVec Ideal S16x2048 .f32) (X : FVec Ideal S2048x2048 .f32) (y : S2x2048.Idx) :
    k0_pay1 (k0_pay5 (F := Ideal) C X) (k0_pay8 (F := Ideal) C X) y = kernelIds (blockScores C X (y 1)) (y 0) := by
  idx_vars y
  exact ids_at C X _ _

/-- The weights a grid point stores, at any index of its block. -/
theorem weights_block (C : FVec Ideal S16x2048 .f32) (X : FVec Ideal S2048x2048 .f32) (y : S2x2048.Idx) :
    k0_pay2 (F := Ideal) (k0_pay4 C X) (k0_pay7 C X) (k0_pay9 C X) y = kernelWeights (blockScores C X (y 1)) (y 0) := by
  idx_vars y
  exact weights_at C X _ _

/-- The array of positions after the grid. -/
theorem final0 (c : Dev nD) : (dats m 0 c).arrAt 2 (cfgs 0).N
    = idsArray (m ((c : Thread nD τ).loc main_arg1)) (V m c main_v0) := by
  refine (dats m 0 c).arrAt_eq_of_covers 2 _ (by decide +kernel) fun t _ y => ?_
  blk_simp
  rw [after0_2]; frame_out
  refine (ids_block _ _ y).trans (congrArg₂ kernelIds (blockScores_eq m c t _ _ ?_) (Fin.ext ?_))
  · blk_simp [idx t]
  · blk_simp [idx t]

/-- The array of weights after the grid. -/
theorem final1 (c : Dev nD) : (dats m 0 c).arrAt 3 (cfgs 0).N
    = weightsArray (m ((c : Thread nD τ).loc main_arg1)) (V m c main_v0) := by
  refine (dats m 0 c).arrAt_eq_of_covers 3 _ (by decide +kernel) fun t _ y => ?_
  blk_simp
  rw [after0_3]; frame_out
  refine (weights_block _ _ y).trans (congrArg₂ kernelWeights (blockScores_eq m c t _ _ ?_) (Fin.ext ?_))
  · blk_simp [idx t]
  · blk_simp [idx t]

end Cert.Router.Kernel

end
-- ==== Proof.Tail.lean ====
/- What the kernel program returns: the region's arrays after the lines that follow it. -/
module

public import proofs.«01_k».proof.Defs
public import proofs.«01_k».proof.Proof.Array
public import Idealize.ShloMosaic.Lib.Claim

@[expose] public section

set_option maxRecDepth 16384

noncomputable section

namespace Cert.Router.Kernel

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The flat activations the region reads are the first argument, reshaped. -/
theorem entry : V m c main_v0
    = shapeCast S16384x2048 (m ((c : Thread nD τ).loc main_arg0)) shapeCasts_S4x4096x2048_S16384x2048 := by
  entry_read
  simp only [List.flatten_cons, List.flatten_nil, List.append_nil]
  unfold hostOps0
  after_results
  rfl

/-- The first result is the region's array of expert numbers, transposed and split into batches. -/
theorem tail0 : Pipeline.afterTail₀ cfgs (dats m) 0 (V0 m) [hostOps1] c main_v3
    = shapeCast S4x4096x2 (transpose S16384x2 [1, 0] ((dats m 0 c).arrAt 2 (cfgs 0).N)
        transposes_S2x16384_S16384x2_1_0) shapeCasts_S16384x2_S4x4096x2 := by
  have h := Pipeline.withArrays_arr spec0 (by decide) c (V0 m c)
    (fun w => (dats m 0 c).arrAt w (cfgs 0).N) 2
  rw [← h]
  unfold Pipeline.afterTail₀
  after_results
  rfl

/-- The second result is the region's array of weights, transposed and split into batches. -/
theorem tail1 : Pipeline.afterTail₀ cfgs (dats m) 0 (V0 m) [hostOps1] c main_v5
    = shapeCast S4x4096x2 (transpose S16384x2 [1, 0] ((dats m 0 c).arrAt 3 (cfgs 0).N)
        transposes_S2x16384_S16384x2_1_0) shapeCasts_S16384x2_S4x4096x2 := by
  have h := Pipeline.withArrays_arr spec0 (by decide) c (V0 m c)
    (fun w => (dats m 0 c).arrAt w (cfgs 0).N) 3
  rw [← h]
  unfold Pipeline.afterTail₀
  after_results
  rfl

/-- Flattening batches and places keeps each token's entries. -/
theorem flat_at (X : FVec Ideal S4x4096x2048 .f32) (b : Fin 4) (s : Fin 4096) (q : Fin 2048) :
    shapeCast S16384x2048 X shapeCasts_S4x4096x2048_S16384x2048 (ix2 ⟨↑b * 4096 + ↑s, by omega⟩ q) = X (ix3 b s q) := by
  pointwise

/-- The token at batch `b` and place `s` of the flat activations is that token of the first argument. -/
theorem tokenScores_entry (b : Fin 4) (s : Fin 4096) :
    tokenScores (m ((c : Thread nD τ).loc main_arg1)) (V m c main_v0) ⟨↑b * 4096 + ↑s, by omega⟩
      = fun e => logit (fun q => m ((c : Thread nD τ).loc main_arg1) (ix2 e q))
          (fun q => m ((c : Thread nD τ).loc main_arg0) (ix3 b s q)) := by
  rw [entry]
  funext e
  exact congrArg (logit _) (funext fun q => flat_at _ b s q)

/-- The kernel's expert numbers at batch `b`, place `s` and choice `k`. -/
theorem result0_at (b : Fin 4) (s : Fin 4096) (k : Fin 2) :
    Pipeline.afterTail₀ cfgs (dats m) 0 (V0 m) [hostOps1] c main_v3 (ix3 b s k)
      = kernelIds (fun e => logit (fun q => m ((c : Thread nD τ).loc main_arg1) (ix2 e q))
          (fun q => m ((c : Thread nD τ).loc main_arg0) (ix3 b s q))) k := by
  rw [tail0, final0, ← tokenScores_entry]
  pointwise [idsArray]

/-- The kernel's weights at batch `b`, place `s` and choice `k`. -/
theorem result1_at (b : Fin 4) (s : Fin 4096) (k : Fin 2) :
    Pipeline.afterTail₀ cfgs (dats m) 0 (V0 m) [hostOps1] c main_v5 (ix3 b s k)
      = kernelWeights (fun e => logit (fun q => m ((c : Thread nD τ).loc main_arg1) (ix2 e q))
          (fun q => m ((c : Thread nD τ).loc main_arg0) (ix3 b s q))) k := by
  rw [tail1, final1, ← tokenScores_entry]
  pointwise [weightsArray]

/-- Every run of the kernel program ends with its two results as the lines after the region leave them, and with its
    arguments unchanged. -/
theorem run (g : Dev nD → PrngReg) :
    θ_run (defs (F := Ideal)) (onTc (τ := τ) (main (F := Ideal))) ⟨m, fun _ => 0, g⟩ (fun r => ∀ c : Dev nD,
      r.2.mem ((c : Thread nD τ).loc main_v3) = Pipeline.afterTail₀ cfgs (dats m) 0 (V0 m) [hostOps1] c main_v3
      ∧ r.2.mem ((c : Thread nD τ).loc main_v5) = Pipeline.afterTail₀ cfgs (dats m) 0 (V0 m) [hostOps1] c main_v5
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun _ h c =>
    ⟨(h.1 c).2 main_v3 (Pipeline.mem_restRefs_of main_v3 (by decide) (by decide)),
      (h.1 c).2 main_v5 (Pipeline.mem_restRefs_of main_v5 (by decide) (by decide)), h.2 c⟩)
    (θ_run_and (run_main m g) (unchanged m g))

end Cert.Router.Kernel

end
-- ==== Proof.RefValue.lean ====
/- What the reference computes, read at an index. -/
module

public import proofs.«01_k».proof.Proof.Gen.ReferenceIdeal.Run
public import proofs.«01_k».proof.Proof.Row
public import Idealize.ShloMosaic.Lib.Pointwise

@[expose] public section

set_option maxRecDepth 16384

noncomputable section

namespace Cert.Router.Reference

open Idealize.ShloMosaic Idealize.ShloMosaic.TcCoe Idealize.SL.Sem
open Cert.ReferenceIdeal Cert.ReferenceIdeal.Facts₀

/-- The reference's scores of every token against every centre, over the temperature. -/
def scores (X : FVec Ideal S4x4096x2048 .f32) (C : FVec Ideal S16x2048 .f32) : FVec Ideal S16384x16 .f32 :=
  Host.divf (Host.dotGeneral dot_S16384x2048_S2048x16_S16384x16_1_0_0_1_n_n none (Host.divf (shapeCast _ X Gen.shapeCasts_S4x4096x2048_S16384x2048) (broadcastInDim S16384x2048 ![0, 1] Gen.bcast_S16384x1_S16384x2048_0_1 (maximumf (Host.sqrt (broadcastInDim S16384x1 ![0] Gen.bcast_S16384_S16384x1_0 (Host.reduceAdd (mulf (shapeCast _ X Gen.shapeCasts_S4x4096x2048_S16384x2048) (shapeCast _ X Gen.shapeCasts_S4x4096x2048_S16384x2048)) (constant S_ .f32 0x00000000#32) Gen.reducesTo_S16384x2048_S16384_d1 Gen.h_S_))) (broadcastInDim S16384x1 ![] Gen.bcast_S_S16384x1 (constant S_ .f32 0x2B8CBCCC#32))))) (transpose S2048x16 [1, 0] (Host.divf C (broadcastInDim S16x2048 ![0, 1] Gen.bcast_S16x1_S16x2048_0_1 (maximumf (Host.sqrt (broadcastInDim S16x1 ![0] Gen.bcast_S16_S16x1_0 (Host.reduceAdd (mulf C C) (constant S_ .f32 0x00000000#32) Gen.reducesTo_S16x2048_S16_d1 Gen.h_S_))) (broadcastInDim S16x1 ![] Gen.bcast_S_S16x1 (constant S_ .f32 0x2B8CBCCC#32))))) Gen.transposes_S16x2048_S2048x16_1_0)) (broadcastInDim S16384x16 ![] Gen.bcast_S_S16384x16 (maximumf (constant S_ .f32 0x3F800000#32) (constant S_ .f32 0x358637BD#32)))

/-- The exponentials of the scores less their row's maximum. -/
def expScores (L : FVec Ideal S16384x16 .f32) : FVec Ideal S16384x16 .f32 :=
  Host.exp (subf L (broadcastInDim S16384x16 ![0, 1] Gen.bcast_S16384x1_S16384x16_0_1 (broadcastInDim S16384x1 ![0] Gen.bcast_S16384_S16384x1_0 (maximumf (broadcastInDim S16384 ![] Gen.bcast_S_S16384 (constant S_ .f32 0xFF800000#32)) (Host.reduce FloatOps.maximumf L (constant S_ .f32 0xFF800000#32) Gen.reducesTo_S16384x16_S16384_d1 Gen.h_S_)))))

/-- The softmax of the scores: each exponential over its row's sum. -/
def probs (E : FVec Ideal S16384x16 .f32) : FVec Ideal S16384x16 .f32 :=
  Host.divf E (broadcastInDim S16384x16 ![0, 1] Gen.bcast_S16384x1_S16384x16_0_1 (broadcastInDim S16384x1 ![0] Gen.bcast_S16384_S16384x1_0 (Host.reduceAdd E (constant S_ .f32 0x00000000#32) Gen.reducesTo_S16384x16_S16384_d1 Gen.h_S_)))

/-- The two greatest of each row of probabilities, and their positions. -/
def top (P : FVec Ideal S16384x16 .f32) : FVec Ideal S16384x2 .f32 × IVec S16384x2 32 :=
  Host.topK S16384x2 1 (FloatOps.cmpfTotal .gt) P Gen.sliceFits_S16384x16_S16384x2

/-- The two greatest over their guarded sum. -/
def weights (W : FVec Ideal S16384x2 .f32) : FVec Ideal S16384x2 .f32 :=
  Host.divf W (broadcastInDim S16384x2 ![0, 1] Gen.bcast_S16384x1_S16384x2_0_1 (addf (broadcastInDim S16384x1 ![0] Gen.bcast_S16384_S16384x1_0 (Host.reduceAdd W (constant S_ .f32 0x00000000#32) Gen.reducesTo_S16384x2_S16384_d1 Gen.h_S_)) (broadcastInDim S16384x1 ![] Gen.bcast_S_S16384x1 (constant S_ .f32 0x3089705F#32))))

/-- The sixteen scores of the token at batch `b` and place `s`. -/
def rowScores (X : FVec Ideal S4x4096x2048 .f32) (C : FVec Ideal S16x2048 .f32) (b : Fin 4) (s : Fin 4096) (e : Fin 16) :
    EReal :=
  logit (fun q => C (ix2 e q)) (fun q => X (ix3 b s q))

/-- The scores are the scalar products of the rows over their lengths: the temperature is one. -/
theorem scores_at (X : FVec Ideal S4x4096x2048 .f32) (C : FVec Ideal S16x2048 .f32) (t : Fin 16384) (e : Fin 16) :
    scores X C (ix2 t e) = rowScores X C ⟨t / 4096, by omega⟩ ⟨t % 4096, by omega⟩ e := by
  pointwise [scores]
  rw [max_eq_left ofBits_minTemp]
  have h1 : ∀ x : EReal, Ideal.div x 1 = x := fun x => by
    rw [← EReal.coe_one, Ideal.div_coe one_ne_zero]; simp
  rw [h1]
  exact Finset.sum_congr rfl fun q _ => mul_comm _ _

/-- The exponentials read the row's scores alone. -/
theorem exp_at (L : FVec Ideal S16384x16 .f32) (t : Fin 16384) (e : Fin 16) :
    expScores L (ix2 t e) = rowExp (fun x => L (ix2 t x)) e := by
  pointwise [expScores]
  rfl

/-- The probabilities are the row's softmax. -/
theorem probs_at (L : FVec Ideal S16384x16 .f32) (t : Fin 16384) (e : Fin 16) :
    probs (expScores L) (ix2 t e) = rowProb (fun x => L (ix2 t x)) e := by
  pointwise [probs, exp_at]
  rfl

/-- A row of a matrix with its column replaced. -/
theorem along_eq (t : Fin 16384) (e x : Fin 16) : (ix2 t e : S16384x16.Idx).along 1 x = ix2 t x := by
  funext a
  fin_cases a <;> rfl

/-- The comparison of the sort is "greater than". -/
theorem gt_eq (x y : EReal) : (FloatOps.cmpfTotal (F := Ideal) (φ := .f32) .gt x y == 1#1) = decide (y < x) := by
  show (BitVec.ofBool (decide (y < x)) == 1#1) = decide (y < x)
  cases decide (y < x) <;> rfl

/-- The greatest two of a row are its entries at the sorted positions. -/
theorem top_fst_at (P : FVec Ideal S16384x16 .f32) (t : Fin 16384) (k : Fin 2) :
    (top P).1 (ix2 t k) = P (ix2 t (sortedPos (fun x => P (ix2 t x)) k)) := by
  pointwise [top, Host.topK, Host.sort2]
  simp only [along_eq, gt_eq]
  rfl

/-- Their positions are the sorted positions. -/
theorem top_snd_at (P : FVec Ideal S16384x16 .f32) (t : Fin 16384) (k : Fin 2) :
    (top P).2 (ix2 t k) = BitVec.ofNat 32 ↑(sortedPos (fun x => P (ix2 t x)) k) := by
  pointwise [top, Host.topK, Host.sort2]
  simp only [along_eq, gt_eq]
  rfl

/-- The weights divide the greatest two by their guarded sum. -/
theorem weights_at (W : FVec Ideal S16384x2 .f32) (t : Fin 16384) (k : Fin 2) :
    weights W (ix2 t k)
      = Ideal.div (W (ix2 t k)) (∑ x, W (ix2 t x) + Ideal.ofBits .f32 0x3089705F#32) := by
  pointwise [weights]

variable (m : (ℓ : Loc nD τ sig) → Buf (Elt Ideal) ℓ)

/-- The reference's first result, in the names above. -/
theorem out0_eq (c : Dev nD) : Value.res_main_v33 m c = shapeCast _ (top (probs (expScores (scores (m ((c.tc : Thread nD τ).loc main_arg0)) (m ((c.tc : Thread nD τ).loc main_arg1)))))).2 Gen.shapeCasts_S16384x2_S4x4096x2 := rfl

/-- The reference's second result, in the names above. -/
theorem out1_eq (c : Dev nD) : Value.res_main_v34 m c = shapeCast _ (weights (top (probs (expScores (scores (m ((c.tc : Thread nD τ).loc main_arg0)) (m ((c.tc : Thread nD τ).loc main_arg1)))))).1) Gen.shapeCasts_S16384x2_S4x4096x2 := rfl

/-- The token at batch `b` and place `s`, counted through all batches, is at that batch and place. -/
theorem rowScores_split (X : FVec Ideal S4x4096x2048 .f32) (C : FVec Ideal S16x2048 .f32) (b : Fin 4) (s : Fin 4096) :
    (fun e => scores X C (ix2 ⟨↑b * 4096 + ↑s, by omega⟩ e)) = rowScores X C b s := by
  funext e
  rw [scores_at]
  congr 1 <;> exact Fin.ext (by simp <;> omega)

/-- The reference's positions at batch `b`, place `s` and choice `k`. -/
theorem ids_at (X : FVec Ideal S4x4096x2048 .f32) (C : FVec Ideal S16x2048 .f32) (b : Fin 4) (s : Fin 4096) (k : Fin 2) :
    shapeCast (s := S16384x2) S4x4096x2 (top (probs (expScores (scores X C)))).2 Gen.shapeCasts_S16384x2_S4x4096x2 (ix3 b s k)
      = referenceIds (rowScores X C b s) k := by
  pointwise [top_snd_at, probs_at]
  rw [rowScores_split]
  rfl

/-- The reference's weights at batch `b`, place `s` and choice `k`. -/
theorem out_weights_at (X : FVec Ideal S4x4096x2048 .f32) (C : FVec Ideal S16x2048 .f32) (b : Fin 4) (s : Fin 4096) (k : Fin 2) :
    shapeCast (s := S16384x2) S4x4096x2 (weights (top (probs (expScores (scores X C)))).1) Gen.shapeCasts_S16384x2_S4x4096x2 (ix3 b s k)
      = referenceWeights (rowScores X C b s) k := by
  pointwise [weights_at, top_fst_at, probs_at]
  rw [rowScores_split]
  rfl

end Cert.Router.Reference
end
-- ==== Proof.Equation.lean ====
/- The equation of the two programs: from the same arguments they return the same arrays. -/
module

public import proofs.«01_k».proof.Proof.Tail
public import proofs.«01_k».proof.Proof.RefValue

@[expose] public section

set_option maxRecDepth 16384

noncomputable section

namespace Cert.Router

open Idealize.ShloMosaic Idealize.ShloMosaic.TcCoe Idealize.SL.Sem

/-- Scores of unit rows are real and bounded, so the kernel and the reference choose the same experts. -/
theorem ids_logit (C : Fin 16 → Fin 2048 → EReal) (x : Fin 2048 → EReal) (k : Fin 2) :
    kernelIds (fun e => logit (C e) x) k = referenceIds (fun e => logit (C e) x) k := by
  choose r hr h using fun e => logit_real (C e) x
  simp only [h]
  exact ids_eq r hr k

/-- Scores of unit rows are real and bounded, so the kernel and the reference give the same weights. -/
theorem weights_logit (C : Fin 16 → Fin 2048 → EReal) (x : Fin 2048 → EReal) (k : Fin 2) :
    kernelWeights (fun e => logit (C e) x) k = referenceWeights (fun e => logit (C e) x) k := by
  choose r hr h using fun e => logit_real (C e) x
  simp only [h]
  exact weights_eq r hr k

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)
  (h0 : m' ((c.tc : Thread ReferenceIdeal.nD ReferenceIdeal.τ).loc ReferenceIdeal.main_arg0)
    = m ((c.tc : Thread KernelIdeal.nD KernelIdeal.τ).loc KernelIdeal.main_arg0))
  (h1 : m' ((c.tc : Thread ReferenceIdeal.nD ReferenceIdeal.τ).loc ReferenceIdeal.main_arg1)
    = m ((c.tc : Thread KernelIdeal.nD KernelIdeal.τ).loc KernelIdeal.main_arg1))

include h0 h1

/-- The expert numbers agree. -/
theorem result0_eq : ReferenceIdeal.Value.res_main_v33 m' c
    = Pipeline.afterTail₀ KernelIdeal.cfgs (KernelIdeal.Gen.dats m) 0 (KernelIdeal.Gen.V0 m)
        [KernelIdeal.Gen.hostOps1] c KernelIdeal.main_v3 := by
  rw [Reference.out0_eq, h0, h1]
  funext i
  idx_vars i
  rw [Kernel.result0_at, ids_logit]
  exact Reference.ids_at _ _ _ _ _

/-- The weights agree. -/
theorem result1_eq : ReferenceIdeal.Value.res_main_v34 m' c
    = Pipeline.afterTail₀ KernelIdeal.cfgs (KernelIdeal.Gen.dats m) 0 (KernelIdeal.Gen.V0 m)
        [KernelIdeal.Gen.hostOps1] c KernelIdeal.main_v5 := by
  rw [Reference.out1_eq, h0, h1]
  funext i
  idx_vars i
  rw [Kernel.result1_at, weights_logit]
  exact Reference.out_weights_at _ _ _ _ _

end Cert.Router

end
-- ==== Proof.lean ====
/- The certificate: the kernel as compiled and read over the reals leaves its arguments and its counters alone, so does
   the reference, and the kernel's two results are the reference's. The mathematics is in the modules under Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent

@[expose] public section

set_option maxRecDepth 16384

noncomputable section

namespace Cert.Proof

open Idealize.ShloMosaic Idealize.SL.Sem

/-- From the same arguments the kernel and the reference end with equal expert numbers and equal weights. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, Cert.Router.Kernel.run m g, (θ_run _ _ _).mono (fun r h c => ?_) (Cert.ReferenceIdeal.Value.run m' g')⟩
  exact ⟨(h c).1.trans (Cert.Router.result0_eq m m' c (hagree c).1 (hagree c).2),
    (h c).2.1.trans (Cert.Router.result1_eq m m' c (hagree c).1 (hagree c).2), (h c).2.2⟩

/-- Every claim of the certificate. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run Cert.ReferenceIdeal.defs _ _).mono (fun r h =>
      ⟨fun c => ⟨(h c).2.2.1, (h c).2.2.2⟩, sem_eq_zero_of_no_sems (by decide) r.2⟩)
      (Cert.ReferenceIdeal.Value.run (F := Ideal) m ρ),
    trivial, algebraic⟩

end Cert.Proof

end
